-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_as_drawn : Cert.Pre_inputs_as_drawn.Facts),
    quiescent_Kernel (hKernel := hKernel)
    ∧ quiescent_KernelIdeal (hKernelIdeal := hKernelIdeal)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S8192x6144 : Shape := ⟨2, ![8192, 6144]⟩
abbrev S8192 : Shape := ⟨1, ![8192]⟩
abbrev S2x16384x8x128 : Shape := ⟨4, ![2, 16384, 8, 128]⟩
abbrev S_ : Shape := ⟨0, ![]⟩
abbrev S2x8192x8x128 : Shape := ⟨4, ![2, 8192, 8, 128]⟩

class Facts : Prop where
  bcast_S_S8192 : S_.BroadcastsInDim S8192 (![] : Fin 0 → Fin S8192.rank)
  reducesTo_S8192_S_d0 : S8192.ReducesTo [0] S_
  h_S_ : 0 < S_.numel
  slices_S2x16384x8x128_S2x8192x8x128_0_8192_0_0 : S2x16384x8x128.Slices ![0, 8192, 0, 0] S2x8192x8x128
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_

variable [Facts]

def fn {F : FTy → Type} [FloatOps F] (main_arg0 : FVec F S8192x6144 .f32) (main_arg1 : IVec S8192 32) (main_arg2 : FVec F S2x16384x8x128 .f32) (main_arg3 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 4096#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_v6 : IVec S8192 32 := iotaInDim S8192 32 0
  let main_v7 : IVec S8192 1 := cmpi .eq main_arg3 main_v6
  let main_c_2 : IVec S_ 1 := constantI S_ 1 1#1
  let main_v8 : IVec S_ 1 := (fun x v => Host.reduce IntOp.andi x v reducesTo_S8192_S_d0 h_S_) main_v7 main_c_2
  let main_v9 : FVec F S2x8192x8x128 .f32 := (extractStridedSlice S2x8192x8x128 ![0, 8192, 0, 0] · slices_S2x16384x8x128_S2x8192x8x128_0_8192_0_0) main_arg2
  let main_cst : FVec F S_ .f32 := constant S_ .f32 0x00000000#32
  let main_v10 : FVec F S2x8192x8x128 .f32 := broadcastInDim S2x8192x8x128 ![] bcast_S_S2x8192x8x128 main_cst
  let main_v11 : IVec S2x8192x8x128 1 := cmpf .oeq main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v5 main_v8
  let main_v14 : IVec S_ 1 := andi main_v13 main_v12
  main_v14
-- ==== Kernel.lean ====
abbrev S8192x6144 : Shape := ⟨2, ![8192, 6144]⟩
abbrev S8192 : Shape := ⟨1, ![8192]⟩
abbrev S2x16384x8x128 : Shape := ⟨4, ![2, 16384, 8, 128]⟩
abbrev S8192x1 : Shape := ⟨2, ![8192, 1]⟩
abbrev S8192x32x128 : Shape := ⟨3, ![8192, 32, 128]⟩
abbrev S8192x8x128 : Shape := ⟨3, ![8192, 8, 128]⟩
abbrev S2x2x8192x8x128 : Shape := ⟨5, ![2, 2, 8192, 8, 128]⟩
abbrev S256x1 : Shape := ⟨2, ![256, 1]⟩
abbrev S256x6144 : Shape := ⟨2, ![256, 6144]⟩
abbrev S256x32x128 : Shape := ⟨3, ![256, 32, 128]⟩
abbrev S256x8x128 : Shape := ⟨3, ![256, 8, 128]⟩
abbrev S2x2x256x8x128 : Shape := ⟨5, ![2, 2, 256, 8, 128]⟩
abbrev S1x64 : Shape := ⟨2, ![1, 64]⟩
abbrev S256x64 : Shape := ⟨2, ![256, 64]⟩
abbrev S256x128 : Shape := ⟨2, ![256, 128]⟩
abbrev S256x1x128 : Shape := ⟨3, ![256, 1, 128]⟩
abbrev S256x5120 : Shape := ⟨2, ![256, 5120]⟩
abbrev S256x40x128 : Shape := ⟨3, ![256, 40, 128]⟩
abbrev S256x1024 : Shape := ⟨2, ![256, 1024]⟩
abbrev S1x1x256x8x128 : Shape := ⟨5, ![1, 1, 256, 8, 128]⟩

abbrev nBuf : Space → Nat
  | .hbm => 10
  | .vmem => 12
  | .smem => 0
  | _ => 0

abbrev bufTy : (tb : Table) → Fin (tcTables nBuf tb) → BufTy
  | .hbm, ⟨0, _⟩ => ⟨S8192x6144, .f32⟩
  | .hbm, ⟨1, _⟩ => ⟨S8192, .i32⟩
  | .hbm, ⟨2, _⟩ => ⟨S2x16384x8x128, .f32⟩
  | .hbm, ⟨3, _⟩ => ⟨S8192, .i32⟩
  | .hbm, ⟨4, _⟩ => ⟨S8192x1, .i32⟩
  | .hbm, ⟨5, _⟩ => ⟨S8192x32x128, .f32⟩
  | .hbm, ⟨6, _⟩ => ⟨S8192x8x128, .f32⟩
  | .hbm, ⟨7, _⟩ => ⟨S8192x8x128, .f32⟩
  | .hbm, ⟨8, _⟩ => ⟨S2x2x8192x8x128, .f32⟩
  | .hbm, ⟨9, _⟩ => ⟨S2x16384x8x128, .f32⟩
  | .local _ .vmem, ⟨0, _⟩ => ⟨S256x1, .i32⟩
  | .local _ .vmem, ⟨1, _⟩ => ⟨S256x1, .i32⟩
  | .local _ .vmem, ⟨2, _⟩ => ⟨S256x6144, .f32⟩
  | .local _ .vmem, ⟨3, _⟩ => ⟨S256x6144, .f32⟩
  | .local _ .vmem, ⟨4, _⟩ => ⟨S256x32x128, .f32⟩
  | .local _ .vmem, ⟨5, _⟩ => ⟨S256x32x128, .f32⟩
  | .local _ .vmem, ⟨6, _⟩ => ⟨S256x8x128, .f32⟩
  | .local _ .vmem, ⟨7, _⟩ => ⟨S256x8x128, .f32⟩
  | .local _ .vmem, ⟨8, _⟩ => ⟨S256x8x128, .f32⟩
  | .local _ .vmem, ⟨9, _⟩ => ⟨S256x8x128, .f32⟩
  | .local _ .vmem, ⟨10, _⟩ => ⟨S2x2x256x8x128, .f32⟩
  | .local _ .vmem, ⟨11, _⟩ => ⟨S2x2x256x8x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2x256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x6144 : Shape := ⟨2, ![8192, 6144]⟩
abbrev S8192 : Shape := ⟨1, ![8192]⟩
abbrev S2x16384x8x128 : Shape := ⟨4, ![2, 16384, 8, 128]⟩
abbrev S8192x4096 : Shape := ⟨2, ![8192, 4096]⟩
abbrev S8192x1024 : Shape := ⟨2, ![8192, 1024]⟩
abbrev S8192x32x128 : Shape := ⟨3, ![8192, 32, 128]⟩
abbrev S8192x8x128 : Shape := ⟨3, ![8192, 8, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩
abbrev S8192x32x64 : Shape := ⟨3, ![8192, 32, 64]⟩
abbrev S8192x1x64 : Shape := ⟨3, ![8192, 1, 64]⟩
abbrev S8192x8x64 : Shape := ⟨3, ![8192, 8, 64]⟩
abbrev S8192x2 : Shape := ⟨2, ![8192, 2]⟩

abbrev nBuf : Space → Nat
  | .hbm => 138
  | .vmem => 0
  | .smem => 0
  | _ => 0

abbrev hbmTy0_0 (i : Nat) : BufTy := match i % 128 with
  | 0 => ⟨S8192x6144, .f32⟩
  | 1 => ⟨S8192, .i32⟩
  | 2 => ⟨S2x16384x8x128, .f32⟩
  | 3 => ⟨S8192, .i32⟩
  | 4 => ⟨S8192x4096, .f32⟩
  | 5 => ⟨S8192x1024, .f32⟩
  | 6 => ⟨S8192x1024, .f32⟩
  | 7 => ⟨S8192x32x128, .f32⟩
  | 8 => ⟨S8192x8x128, .f32⟩
  | 9 => ⟨S8192x8x128, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S4096, .f32⟩
  | 27 => ⟨S4096x1, .f32⟩
  | 28 => ⟨S1x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S1, .i32⟩
  | 43 => ⟨S_, .i32⟩
  | 44 => ⟨S8192x1, .i32⟩
  | 45 => ⟨S8192x1, .i1⟩
  | 46 => ⟨S1x1, .i32⟩
  | 47 => ⟨S8192x1, .i32⟩
  | 48 => ⟨S8192x1, .i1⟩
  | 49 => ⟨S8192x1, .i1⟩
  | 50 => ⟨S_, .i1⟩
  | 51 => ⟨S8192, .i1⟩
  | 52 => ⟨S8192x64, .f32⟩
  | 53 => ⟨S8192x64, .i1⟩
  | 54 => ⟨S_, .f32⟩
  | 55 => ⟨S8192x64, .f32⟩
  | 56 => ⟨S8192x64, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S1, .i32⟩
  | 66 => ⟨S_, .i32⟩
  | 67 => ⟨S8192x1, .i32⟩
  | 68 => ⟨S8192x1, .i1⟩
  | 69 => ⟨S1x1, .i32⟩
  | 70 => ⟨S8192x1, .i32⟩
  | 71 => ⟨S8192x1, .i1⟩
  | 72 => ⟨S8192x1, .i1⟩
  | 73 => ⟨S_, .i1⟩
  | 74 => ⟨S8192, .i1⟩
  | 75 => ⟨S8192x64, .f32⟩
  | 76 => ⟨S8192x64, .i1⟩
  | 77 => ⟨S_, .f32⟩
  | 78 => ⟨S8192x64, .f32⟩
  | 79 => ⟨S8192x64, .f32⟩
  | 80 => ⟨S8192x32x64, .f32⟩
  | 81 => ⟨S8192x32x64, .f32⟩
  | 82 => ⟨S8192x1x64, .f32⟩
  | 83 => ⟨S8192x1x64, .f32⟩
  | 84 => ⟨S8192x32x64, .f32⟩
  | 85 => ⟨S8192x32x64, .f32⟩
  | 86 => ⟨S8192x32x64, .f32⟩
  | 87 => ⟨S8192x32x64, .f32⟩
  | 88 => ⟨S8192x32x64, .f32⟩
  | 89 => ⟨S8192x32x64, .f32⟩
  | 90 => ⟨S8192x32x64, .f32⟩
  | 91 => ⟨S8192x32x64, .f32⟩
  | 92 => ⟨S8192x32x64, .f32⟩
  | 93 => ⟨S8192x32x64, .f32⟩
  | 94 => ⟨S8192x32x128, .f32⟩
  | 95 => ⟨S8192x8x64, .f32⟩
  | 96 => ⟨S8192x8x64, .f32⟩
  | 97 => ⟨S8192x1x64, .f32⟩
  | 98 => ⟨S8192x1x64, .f32⟩
  | 99 => ⟨S8192x8x64, .f32⟩
  | 100 => ⟨S8192x8x64, .f32⟩
  | 101 => ⟨S8192x8x64, .f32⟩
  | 102 => ⟨S8192x8x64, .f32⟩
  | 103 => ⟨S8192x8x64, .f32⟩
  | 104 => ⟨S8192x8x64, .f32⟩
  | 105 => ⟨S8192x8x64, .f32⟩
  | 106 => ⟨S8192x8x64, .f32⟩
  | 107 => ⟨S8192x8x64, .f32⟩
  | 108 => ⟨S8192x8x64, .f32⟩
  | 109 => ⟨S8192x8x128, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192x1, .i32⟩
  | 121 => ⟨S8192x1, .i32⟩
  | 122 => ⟨S8192x2, .i32⟩
  | 123 => ⟨S2x16384x8x128, .f32⟩
  | 124 => ⟨S_, .i32⟩
  | 125 => ⟨S8192, .i32⟩
  | 126 => ⟨S8192, .i1⟩
  | 127 => ⟨S_, .i32⟩
  | _ => ⟨S8192x6144, .f32⟩

abbrev hbmTy0_1 (i : Nat) : BufTy := match i % 128 with
  | 0 => ⟨S8192, .i32⟩
  | 1 => ⟨S8192, .i32⟩
  | 2 => ⟨S8192, .i32⟩
  | 3 => ⟨S_, .i32⟩
  | 4 => ⟨S8192, .i32⟩
  | 5 => ⟨S8192, .i32⟩
  | 6 => ⟨S8192x1, .i32⟩
  | 7 => ⟨S8192x1, .i32⟩
  | 8 => ⟨S8192x2, .i32⟩
  | 9 => ⟨S2x16384x8x128, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v25 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c : Ref sig .tc := ⟨.hbm, 110, rfl⟩
abbrev main_v57 : Ref sig .tc := ⟨.hbm, 111, rfl⟩
abbrev main_v58 : Ref sig .tc := ⟨.hbm, 112, rfl⟩
abbrev main_c_4 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_c_5 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_c_6 : Ref sig .tc := ⟨.hbm, 124, rfl⟩
abbrev main_v68 : Ref sig .tc := ⟨.hbm, 125, rfl⟩
abbrev main_v69 : Ref sig .tc := ⟨.hbm, 126, rfl⟩
abbrev main_c_7 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_8 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩

abbrev nD : Nat := 1
abbrev τ : Topo := Topo.v7x

variable {F : FTy → Type} [FloatOps F]
-- ==== Proof.Rope.lean ====
/-
  WHAT THE FOUR RESULTS ARE, as functions of the fused projections `qkv` and of the positions, on the extended reals.

  A row of `qkv` holds a token's 32 query heads, then its 8 key heads, then its 8 value heads, each of 128 lanes. The query and
  key heads are rotated in pairs of lanes `(i, i + 64)` by an angle that depends on the token's position; the value heads are
  only reshaped; the new cache holds keys and values of token `t` at slot `t`, and zeros at the slots past the tokens.
-/
module

public import Idealize.ShloMosaic.Lib.Pointwise

@[expose] public section

noncomputable section

open Idealize.ShloMosaic

namespace Cert.Rope

/-- The fused projections: one row of 6144 lanes for each of 8192 tokens. -/
abbrev Proj : Type := (⟨2, ![8192, 6144]⟩ : Shape).Idx → EReal
/-- The positions: one word for each token. -/
abbrev Pos : Type := (⟨1, ![8192]⟩ : Shape).Idx → BitVec 32

/-- The angle by which the lane pair `(i, i + 64)` of a token at position `p` is turned: `p · (1 / 10000 ^ (2 i / 128))`. -/
def angle (p : BitVec 32) (i : Nat) : EReal :=
  FloatOps.sitofp (F := Ideal) .f32 p
    * Ideal.div 1 (Ideal.pow (Ideal.ofBits .f32 0x461C4000#32)
        (Ideal.div (Ideal.ofBits .f32 0x40000000#32 * FloatOps.sitofp (F := Ideal) .f32 (BitVec.ofNat 32 i)) (Ideal.ofBits .f32 0x43000000#32)))

/-- Lane `d` of a head `x` turned by the angles of position `p`: in the first half `x d · cos − x (d + 64) · sin`, in the second
    `x d · cos + x (d − 64) · sin`. -/
def turned (p : BitVec 32) (x : Fin 128 → EReal) (d : Fin 128) : EReal :=
  if h : d.val < 64 then x d * Ideal.cos (angle p d.val) - x ⟨d.val + 64, by omega⟩ * Ideal.sin (angle p d.val)
  else x d * Ideal.cos (angle p (d.val - 64)) + x ⟨d.val - 64, by omega⟩ * Ideal.sin (angle p (d.val - 64))

/-- Two heads that agree lane by lane are turned alike. -/
theorem turned_congr {p p' : BitVec 32} {x x' : Fin 128 → EReal} (hp : p = p') (hx : ∀ e, x e = x' e) (d : Fin 128) :
    turned p x d = turned p' x' d := by
  rw [hp, funext hx]

/-- The query heads: head `h` of token `t` is lanes `128 h …` of its row, turned. -/
def query (x : Proj) (p : Pos) : (⟨3, ![8192, 32, 128]⟩ : Shape).Idx → EReal := fun j =>
  turned (p (ix1 (j 0))) (fun e => x (ix2 (j 0) ⟨(j 1).val * 128 + e.val, by have : (j 1).val < 32 := (j 1).isLt; omega⟩)) (j 2)

/-- The key heads: head `h` of token `t` is lanes `4096 + 128 h …` of its row, turned. -/
def key (x : Proj) (p : Pos) : (⟨3, ![8192, 8, 128]⟩ : Shape).Idx → EReal := fun j =>
  turned (p (ix1 (j 0))) (fun e => x (ix2 (j 0) ⟨4096 + (j 1).val * 128 + e.val, by have : (j 1).val < 8 := (j 1).isLt; omega⟩)) (j 2)

/-- The value heads: head `h` of token `t` is lanes `5120 + 128 h …` of its row. -/
def value (x : Proj) : (⟨3, ![8192, 8, 128]⟩ : Shape).Idx → EReal := fun j =>
  x (ix2 (j 0) ⟨5120 + (j 1).val * 128 + (j 2).val, by
    have : (j 1).val < 8 := (j 1).isLt
    have : (j 2).val < 128 := (j 2).isLt
    omega⟩)

/-- The new cache, keys at leading index 0 and values at 1: slot `s` below 8192 holds token `s`'s heads, a later slot zeros. -/
def cache (x : Proj) (p : Pos) : (⟨4, ![2, 16384, 8, 128]⟩ : Shape).Idx → EReal := fun j =>
  if h : (j 1).val < 8192 then
    if (j 0).val = 0 then key x p (ix3 ⟨(j 1).val, h⟩ (j 2) (j 3)) else value x (ix3 ⟨(j 1).val, h⟩ (j 2) (j 3))
  else 0

/-- The new cache with the slots in two halves: the second axis says which half. -/
def halves (x : Proj) (p : Pos) : (⟨5, ![2, 2, 8192, 8, 128]⟩ : Shape).Idx → EReal := fun j =>
  if (j 1).val = 0 then
    if (j 0).val = 0 then key x p (ix3 (j 2) (j 3) (j 4)) else value x (ix3 (j 2) (j 3) (j 4))
  else 0

end Cert.Rope

end
-- ==== Proof.Given.lean ====
module
public import proofs.«01_k».proof.Pre_inputs_as_drawn
public import proofs.«01_k».proof.Proof.Rope
public import Idealize.ShloMosaic.Lib.ReduceAll
public import Idealize.ShloMosaic.Lib.WordCmp

/-! What the precondition gives: every position lies in `[0, 4096)`, token `t`'s slot is `t`, and the old cache is zero from
    slot 8192 on. -/

@[expose] public section
noncomputable section
open Idealize.ShloMosaic

namespace Cert.Rope
open Cert.Pre_inputs_as_drawn

/-- The three facts that the precondition states. -/
theorem given [Facts] (a0 : FVec Ideal S8192x6144 .f32) (a1 : IVec S8192 32) (a2 : FVec Ideal S2x16384x8x128 .f32) (a3 : IVec S8192 32)
    (hf : fn (F := Ideal) a0 a1 a2 a3 = fun _ => 1#1) :
    (∀ t : Fin 8192, (a1 (ix1 t)).toNat < 4096) ∧ (∀ t : Fin 8192, a3 (ix1 t) = BitVec.ofNat 32 t.val)
      ∧ ∀ (b : Fin 2) (r : Fin 16384) (h : Fin 8) (d : Fin 128), 8192 ≤ r.val → a2 (ix4 b r h d) = 0 := by
  haveI : Subsingleton S_.Idx := ⟨fun _ _ => funext fun k => k.elim0⟩
  have e := congrFun hf ix0
  obtain ⟨e', e2⟩ := IntOp.andi_eq_one.1 e
  obtain ⟨e0, e1⟩ := IntOp.andi_eq_one.1 e'
  refine ⟨fun t => ?_, fun t => ?_, fun b r h d hr => ?_⟩
  · have q := Host.reduce_andi_all _ _ _ _ _ e0 (ix1 t)
    change IntOp.andi (IntOp.cmpi .sge (a1 (ix1 t)) 0#32) (IntOp.cmpi .slt (a1 (ix1 t)) 4096#32) = 1#1 at q
    generalize a1 (ix1 t) = w at q ⊢
    have r : IntOp.andi (IntOp.cmpi .sge w 0#32) (IntOp.cmpi .slt w 4096#32) = 1#1 ↔ w.toNat < 4096 := by word_cmp
    exact r.1 q
  · have q := Host.reduce_andi_all _ _ _ _ _ e1 (ix1 t)
    change IntOp.cmpi .eq (a3 (ix1 t)) (BitVec.ofNat 32 t.val) = 1#1 at q
    generalize a3 (ix1 t) = w at q ⊢
    have r : IntOp.cmpi .eq w (BitVec.ofNat 32 t.val) = 1#1 ↔ w = BitVec.ofNat 32 t.val := IntOp.cmpi_eq
    exact r.1 q
  · have q := Host.reduce_andi_all _ _ _ _ _ e2 (ix4 b ⟨r.val - 8192, by omega⟩ h d)
    pointwise at q
    have s : (⟨8192 + (r.val - 8192), by omega⟩ : Fin 16384) = r := Fin.ext (by show 8192 + (r.val - 8192) = r.val; omega)
    rw [s] at q
    by_contra c
    rw [decide_eq_false c] at q
    exact absurd q (by decide)

end Cert.Rope
-- ==== Proof.KernelBlock.lean ====
/-
  WHAT ONE GRID POINT OF THE KERNEL COMPUTES: each of its four output blocks read at an index, from the point's block of
  positions (256 words) and its block of projections (256 rows of 6144 lanes).
-/
module

public import proofs.«01_k».proof.Proof.Rope
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.Rope

variable (v0 : Vec Ideal S256x1 .i32) (v24 : Vec Ideal S256x6144 .f32)

/-- The kernel's rotation of a block of 40 heads is `turned`, lane by lane: rolling a head by half its lanes and multiplying by the
    sine with its sign in the first half turned round is the subtraction there. -/
theorem block_turned (x : Vec Ideal S256x5120 .f32) (t : Fin 256) (h : Fin 40) (d : Fin 128) :
    k0_pay6 v0 x (ix3 t h d) = turned (v0 (ix2 t 0)) (fun e => x (ix2 t ⟨h.val * 128 + e.val, by omega⟩)) d := by
  pointwise [k0_pay6, turned]
  unfold angle
  by_cases hd : d.val < 64
  · rw [dif_pos hd, dif_pos hd, dif_pos hd, zero_sub, mul_neg, ← sub_eq_add_neg]
    have e : (d.val + 128 - 64) % 128 = d.val + 64 := by omega
    simp only [e]
  · rw [dif_neg hd, dif_neg hd, dif_neg hd]
    have e : (d.val + 128 - 64) % 128 = d.val - 64 := by omega
    simp only [e]

/-- The query block: heads 0 to 31 of the rotated block. -/
theorem out_query (t : Fin 256) (h : Fin 32) (d : Fin 128) :
    out0_2 v0 v24 (ix3 t h d) = turned (v0 (ix2 t 0)) (fun e => v24 (ix2 t ⟨h.val * 128 + e.val, by omega⟩)) d := by
  unfold out0_2
  frame_out
  pointwise [k0_pay7]
  rw [block_turned]
  pointwise

/-- Heads 32 to 39 of the rotated block. -/
theorem block_key (t : Fin 256) (h : Fin 8) (d : Fin 128) :
    k0_pay8 v0 (View.ld v24 r0_1) (ix3 t h d) = turned (v0 (ix2 t 0)) (fun e => v24 (ix2 t ⟨4096 + h.val * 128 + e.val, by omega⟩)) d := by
  pointwise [k0_pay8]
  rw [block_turned]
  refine turned_congr rfl (fun e => ?_) d
  pointwise
  blk_ext

/-- The last 1024 lanes of each row, as 8 heads. -/
theorem block_value (t : Fin 256) (h : Fin 8) (d : Fin 128) :
    k0_pay10 v0 v24 (ix3 t h d) = v24 (ix2 t ⟨5120 + h.val * 128 + d.val, by omega⟩) := by
  pointwise [k0_pay10, k0_pay9]
  blk_ext

/-- The key block: heads 32 to 39 of the rotated block. -/
theorem out_key (t : Fin 256) (h : Fin 8) (d : Fin 128) :
    out0_3 v0 v24 (ix3 t h d) = turned (v0 (ix2 t 0)) (fun e => v24 (ix2 t ⟨4096 + h.val * 128 + e.val, by omega⟩)) d := by
  rw [← block_key]
  unfold out0_3
  frame_out

/-- The value block. -/
theorem out_value (t : Fin 256) (h : Fin 8) (d : Fin 128) :
    out0_4 v0 v24 (ix3 t h d) = v24 (ix2 t ⟨5120 + h.val * 128 + d.val, by omega⟩) := by
  rw [← block_value v0 v24]
  unfold out0_4
  frame_out

/-- The cache block: in its first half the key block, then the value block; in its second half zeros. -/
theorem out_cache (a b : Fin 2) (t : Fin 256) (h : Fin 8) (d : Fin 128) :
    out0_5 v0 v24 (ix5 a b t h d)
      = if b.val = 0 then
          if a.val = 0 then turned (v0 (ix2 t 0)) (fun e => v24 (ix2 t ⟨4096 + h.val * 128 + e.val, by omega⟩)) d
          else v24 (ix2 t ⟨5120 + h.val * 128 + d.val, by omega⟩)
        else 0 := by
  rw [← block_key, ← block_value v0 v24]
  unfold out0_5
  canon_tiles x hx
  all_goals
    idx_vars x
    pointwise [k0_pay1, k0_pay2, k0_pay3, k0_pay4, k0_pay5] at *
    obtain rfl : t = x2 := Fin.ext hx2
    obtain rfl : h = x3 := Fin.ext hx3
    obtain rfl : d = x4 := Fin.ext hx4
    simp only [hx0, hx1, one_ne_zero, ↓reduceIte]
  rw [View.ld_unit_zero (funext fun a => by fin_cases a <;> rfl)]

end Cert.Rope

end
-- ==== Proof.KernelValue.lean ====
/-
  WHAT THE KERNEL'S RESULTS HOLD AFTER THE RUN: the blocks of the 32 grid points put together, each result array as one function
  of the whole arguments, and the run that says so. The new cache is the fourth array with its two halves of slots laid end to end.
-/
module

public import proofs.«01_k».proof.Proof.KernelBlock

@[expose] public section

set_option maxRecDepth 16384

noncomputable section

open Idealize.ShloMosaic Idealize.ShloMosaic.TcCoe Idealize.SL.Sem
open Cert.KernelIdeal Cert.KernelIdeal.Gen

namespace Cert.Rope

variable (m : (ℓ : Loc nD τ sig) → Buf (Elt Ideal) ℓ) (ρ : Dev nD → PrngReg) (c : Dev nD)

/-- The index maps: point `t` takes block `t` of the tokens, and all of every other axis. -/
theorem idx : ∀ t : Fin cfg0.N,
    win0_0.index t = ![t.val, 0] ∧ win0_1.index t = ![t.val, 0] ∧ win0_2.index t = ![t.val, 0, 0]
      ∧ win0_3.index t = ![t.val, 0, 0] ∧ win0_4.index t = ![t.val, 0, 0] ∧ win0_5.index t = ![0, 0, t.val, 0, 0] := by
  decide +kernel

/-- The projections and the positions the kernel is given. -/
abbrev proj : Proj := m ((c : Thread nD τ).loc main_arg0)
abbrev pos : Pos := m ((c : Thread nD τ).loc main_arg1)

/-- The region finds the positions as a column. -/
theorem entry_pos : V m c main_v0 = shapeCast S8192x1 (m ((c : Thread nD τ).loc main_arg1)) shapeCasts_S8192_S8192x1 := by
  show StableHlo.after (hostOps0 (F := Ideal)) (fun b => m (c, b)) (Proc.devRef .tc main_v0) = _
  unfold hostOps0
  after_results
  rfl

/-- Point `t`'s block of positions is the words of its 256 tokens, -/
theorem blk_pos (t : Fin cfg0.N) (r : Fin 256) (i : Fin 8192) (hi : i.val = t.val * 256 + r.val) :
    iblk m c 0 t (ix2 r (0 : Fin 1)) = pos m c (ix1 i) := by
  have e : (win0_0.blk t).view.emb (ix2 r (0 : Fin 1)) = ix2 i (0 : Fin 1) := by blk_ext [idx t]
  have h := congrFun (entry_pos m c) (ix2 i (0 : Fin 1))
  rw [← e] at h
  refine Eq.trans ?_ (h.trans ?_)
  · blk_simp [iblk]
  · rw [e]
    pointwise

/-- and its block of projections is their rows. -/
theorem blk_proj (t : Fin cfg0.N) (r : Fin 256) (e : Fin 6144) (i : Fin 8192) (hi : i.val = t.val * 256 + r.val) :
    iblk m c 1 t (ix2 r e) = proj m c (ix2 i e) := by
  blk_ext [iblk, V, idx t]

/-- The query array holds the query heads. -/
theorem final_query : (dats m 0 c).arrAt 2 cfg0.N = query (proj m c) (pos m c) := by
  refine (dats m 0 c).arrAt_eq_of_covers 2 _ (by decide +kernel) fun t hf y => ?_
  blk_simp
  rw [after0_2]
  obtain ⟨r, h, d, rfl⟩ : ∃ (r : Fin 256) (h : Fin 32) (d : Fin 128), y = ix3 r h d := ⟨y 0, y 1, y 2, eq_ix3 y⟩
  rw [out_query]
  have hr : t.val * 256 + r.val < 8192 := by have : t.val < 32 := lt_of_lt_of_eq t.isLt N_0; omega
  have e : (win0_2.blk t).view.emb (ix3 r h d) = ix3 (⟨t.val * 256 + r.val, hr⟩ : Fin 8192) h d := by blk_ext [idx t]
  rw [e]
  exact turned_congr (blk_pos m c t r _ rfl) (fun e => blk_proj m c t r _ _ rfl) d

/-- The key array holds the key heads. -/
theorem final_key : (dats m 0 c).arrAt 3 cfg0.N = key (proj m c) (pos m c) := by
  refine (dats m 0 c).arrAt_eq_of_covers 3 _ (by decide +kernel) fun t hf y => ?_
  blk_simp
  rw [after0_3]
  obtain ⟨r, h, d, rfl⟩ : ∃ (r : Fin 256) (h : Fin 8) (d : Fin 128), y = ix3 r h d := ⟨y 0, y 1, y 2, eq_ix3 y⟩
  rw [out_key]
  have hr : t.val * 256 + r.val < 8192 := by have : t.val < 32 := lt_of_lt_of_eq t.isLt N_0; omega
  have e : (win0_3.blk t).view.emb (ix3 r h d) = ix3 (⟨t.val * 256 + r.val, hr⟩ : Fin 8192) h d := by blk_ext [idx t]
  rw [e]
  exact turned_congr (blk_pos m c t r _ rfl) (fun e => blk_proj m c t r _ _ rfl) d

/-- The value array holds the value heads. -/
theorem final_value : (dats m 0 c).arrAt 4 cfg0.N = value (proj m c) := by
  refine (dats m 0 c).arrAt_eq_of_covers 4 _ (by decide +kernel) fun t hf y => ?_
  blk_simp
  rw [after0_4]
  obtain ⟨r, h, d, rfl⟩ : ∃ (r : Fin 256) (h : Fin 8) (d : Fin 128), y = ix3 r h d := ⟨y 0, y 1, y 2, eq_ix3 y⟩
  rw [out_value]
  have hr : t.val * 256 + r.val < 8192 := by have : t.val < 32 := lt_of_lt_of_eq t.isLt N_0; omega
  have e : (win0_4.blk t).view.emb (ix3 r h d) = ix3 (⟨t.val * 256 + r.val, hr⟩ : Fin 8192) h d := by blk_ext [idx t]
  rw [e]
  exact blk_proj m c t r _ _ rfl

/-- The fourth array holds the new cache in two halves of slots. -/
theorem final_halves : (dats m 0 c).arrAt 5 cfg0.N = halves (proj m c) (pos m c) := by
  refine (dats m 0 c).arrAt_eq_of_covers 5 _ (by decide +kernel) fun t hf y => ?_
  blk_simp
  rw [after0_5]
  obtain ⟨a, b, r, h, d, rfl⟩ : ∃ (a b : Fin 2) (r : Fin 256) (h : Fin 8) (d : Fin 128), y = ix5 a b r h d :=
    ⟨y 0, y 1, y 2, y 3, y 4, eq_ix5 y⟩
  rw [out_cache]
  have hr : t.val * 256 + r.val < 8192 := by have : t.val < 32 := lt_of_lt_of_eq t.isLt N_0; omega
  have e : (win0_5.blk t).view.emb (ix5 a b r h d) = ix5 a b (⟨t.val * 256 + r.val, hr⟩ : Fin 8192) h d := by blk_ext [idx t]
  rw [e]
  refine if_congr Iff.rfl (if_congr Iff.rfl ?_ ?_) rfl
  · exact turned_congr (blk_pos m c t r _ rfl) (fun e => blk_proj m c t r _ _ rfl) d
  · exact blk_proj m c t r _ _ rfl

/-- The two halves laid end to end are the new cache: slot `s` is place `s mod 8192` of half `s / 8192`. -/
theorem halves_joined (x : Proj) (p : Pos) :
    shapeCast S2x16384x8x128 (halves x p) shapeCasts_S2x2x8192x8x128_S2x16384x8x128 = cache x p := by
  funext j
  idx_vars j
  pointwise [halves, cache]
  have hj : j1.val < 16384 := j1.isLt
  by_cases h : j1.val < 8192
  · have e : j1.val / 8192 = 0 := by omega
    have e' : j1.val % 8192 = j1.val := by omega
    rw [if_pos e, dif_pos h]
    simp only [e']
  · have e : j1.val / 8192 ≠ 0 := by omega
    rw [if_neg e, dif_neg h]

/-- The reshape after the region reads the fourth array. -/
theorem final_cache : Pipeline.afterTail₀ cfgs (dats m) 0 (V0 m) [hostOps1] c main_v2 = cache (proj m c) (pos m c) := by
  rw [← halves_joined, ← final_halves m c]
  unfold Pipeline.afterTail₀
  show StableHlo.after (hostOps1 (F := Ideal)) _ (Proc.devRef .tc main_v2) = _
  unfold hostOps1
  after_results
  have h := (dats m 0 c).withArrays_arrAt (Pipeline.SharedIn.of_injective (launch0.win.arr_inj)) (V0 m c) (fun _ => rfl) 5
  funext i
  exact congrFun (congrArg (fun x => shapeCast S2x16384x8x128 x shapeCasts_S2x2x8192x8x128_S2x16384x8x128) h) i

/-- On every device, from any memory with zero counters: the kernel's run ends with the query, key and value heads in the first
    three results, the new cache in the fourth, and the arguments as they were. -/
theorem kernel_run : θ_run defs (onTc (τ := τ) (main (F := Ideal))) ⟨m, fun _ => 0, ρ⟩ fun r => ∀ c : Dev nD,
    r.2.mem ((c.tc : Thread nD τ).loc main_v1_0) = query (proj m c) (pos m c)
      ∧ r.2.mem ((c.tc : Thread nD τ).loc main_v1_1) = key (proj m c) (pos m c)
      ∧ r.2.mem ((c.tc : Thread nD τ).loc main_v1_2) = value (proj m c)
      ∧ r.2.mem ((c.tc : Thread nD τ).loc main_v2) = cache (proj m c) (pos m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact final_query m c
  · exact final_key m c
  · exact final_value m c
  · exact final_cache m c
  · exact W_main_arg1 m (dats m) c
  · exact W_main_arg2 m (dats m) c
  · exact W_main_arg3 m (dats m) c

end Cert.Rope

end
-- ==== Proof.ReferenceTake.lean ====
module
public import proofs.«01_k».proof.Proof.Gen.ReferenceIdeal.Run
public import proofs.«01_k».proof.Proof.Rope
public import Idealize.ShloMosaic.Lib.ReduceAll
public import Idealize.ShloMosaic.Lib.Routing.Ops
public import Idealize.ShloMosaic.Lib.WordCmp

/-! The reference's rotary tables and the rows it takes from them: at a position in `[0, 4096)` the row taken is the table's
    row at that position, whose entries are the cosine and the sine of the position's angles. -/

@[expose] public section
set_option maxRecDepth 16384
noncomputable section
open Idealize.ShloMosaic Idealize.ShloMosaic.TcCoe Idealize.SL.Sem

namespace Cert.Rope
open Cert.ReferenceIdeal Cert.ReferenceIdeal.Gen

/-- The reference's table of angles: row `r`, entry `i` is the position `r` times the frequency `i`. -/
def angles : S4096x64.Idx → EReal :=
  mulf (F := Ideal) (φ := .f32) (broadcastInDim S4096x64 ![0, 1] bcast_S4096x1_S4096x64_0_1 (broadcastInDim S4096x1 ![0] bcast_S4096_S4096x1_0 (sitofp (F := Ideal) .f32 (iotaInDim S4096 32 0)))) (broadcastInDim S4096x64 ![0, 1] bcast_S1x64_S4096x64_0_1 (broadcastInDim S1x64 ![1] bcast_S64_S1x64_1 (Host.divf (F := Ideal) (φ := .f32) (broadcastInDim S64 ![] bcast_S_S64 (constant (F := Ideal) S_ .f32 0x3F800000#32)) (Host.powf (F := Ideal) (φ := .f32) (broadcastInDim S64 ![] bcast_S_S64 (constant (F := Ideal) S_ .f32 0x461C4000#32)) (Host.divf (F := Ideal) (φ := .f32) (addf (F := Ideal) (φ := .f32) (broadcastInDim S64 ![] bcast_S_S64 (constant (F := Ideal) S_ .f32 0x00000000#32)) (mulf (F := Ideal) (φ := .f32) (broadcastInDim S64 ![] bcast_S_S64 (constant (F := Ideal) S_ .f32 0x40000000#32)) (sitofp (F := Ideal) .f32 (iotaInDim S64 32 0)))) (broadcastInDim S64 ![] bcast_S_S64 (constant (F := Ideal) S_ .f32 0x43000000#32)))))))

/-- The row numbers the reference looks up: the positions, a negative one counted from the table's end. -/
def rows (p : Pos) : S8192x1.Idx → BitVec 32 :=
  broadcastInDim S8192x1 ![0] bcast_S8192_S8192x1_0 (select (cmpi .slt p (broadcastInDim S8192 ![] bcast_S_S8192 (constantI S_ 32 0#32))) (addi p (broadcastInDim S8192 ![] bcast_S_S8192 (constantI S_ 32 4096#32))) p)

/-- Which of the row numbers lie in the table. -/
def inTable (p : Pos) : S8192.Idx → BitVec 1 :=
  Host.reduce IntOp.andi (andi (cmpi .sge (rows p) (broadcastInDim S8192x1 ![] bcast_S_S8192x1 (constantI S_ 32 0#32))) (cmpi .sle (rows p) (broadcastInDim S8192x1 ![0, 1] bcast_S1x1_S8192x1_0_1 (broadcastInDim S1x1 ![1] bcast_S1_S1x1_1 (constantI S1 32 4095#32))))) (constantI S_ 1 1#1) reducesTo_S8192x1_S8192_d1 h_S_

/-- The rows taken from a table, a row outside it replaced by the constant the reference fills with. -/
def taken (T : S4096x64.Idx → EReal) (p : Pos) : S8192x64.Idx → EReal :=
  select (broadcastInDim S8192x64 ![0] bcast_S8192_S8192x64_0 (inTable p)) (Host.gather gather_S4096x64_S8192x1_S8192x64_1_0_n_n_0_1_164 T (rows p)) (broadcastInDim S8192x64 ![] bcast_S_S8192x64 (constant (F := Ideal) S_ .f32 0x7FC00000#32))

/-- A position in the table is looked up as it stands. -/
theorem rows_eq (p : Pos) (hp : ∀ t : Fin 8192, (p (ix1 t)).toNat < 4096) (t : Fin 8192) (e : Fin 1) : rows p (ix2 t e) = p (ix1 t) := by
  have h := hp t
  pointwise [rows]
  word_cmp
  exact if_neg (Nat.not_lt_zero _)

/-- Every position lies in the table. -/
theorem inTable_eq (p : Pos) (hp : ∀ t : Fin 8192, (p (ix1 t)).toNat < 4096) (t : S8192.Idx) : inTable p t = 1#1 := by
  unfold inTable
  refine Host.reduce_andi_one _ _ _ _ _ rfl fun i => ?_
  idx_vars i
  show IntOp.andi (IntOp.cmpi .sge (rows p _) 0#32) (IntOp.cmpi .sle (rows p _) 4095#32) = 1#1
  rw [rows_eq p hp]
  have h := hp i0
  word_cmp

/-- The row taken at a position in the table is the table's row there. -/
theorem taken_eq (T : S4096x64.Idx → EReal) (p : Pos) (hp : ∀ t : Fin 8192, (p (ix1 t)).toNat < 4096) (t : Fin 8192) (i : Fin 64) :
    taken T p (ix2 t i) = T (ix2 ⟨(p (ix1 t)).toNat, hp t⟩ i) := by
  have hg := Routing.gather_row gather_S4096x64_S8192x1_S8192x64_1_0_n_n_0_1_164 rfl rfl rfl rfl rfl T (rows p) t i
    ⟨(p (ix1 t)).toNat, hp t⟩ ((rows_eq p hp t 0).trans (by simp)) (by norm_num)
  unfold taken
  show Scalar.select (inTable p _) (Host.gather gather_S4096x64_S8192x1_S8192x64_1_0_n_n_0_1_164 T (rows p) (ix2 t i)) _ = _
  rw [inTable_eq p hp]
  exact hg

/-- The table's entry in the row of a position is that position's angle. -/
theorem angles_eq (p : BitVec 32) (hp : p.toNat < 4096) (i : Fin 64) : angles (ix2 ⟨p.toNat, hp⟩ i) = angle p i.val := by
  pointwise [angles, angle]
  simp

/-- The cosines the reference takes are those of the positions' angles. -/
theorem taken_cos (p : Pos) (hp : ∀ t : Fin 8192, (p (ix1 t)).toNat < 4096) (t : Fin 8192) (i : Fin 64) :
    taken (Host.cos (F := Ideal) (φ := .f32) angles) p (ix2 t i) = Ideal.cos (angle (p (ix1 t)) i.val) := by
  rw [taken_eq _ p hp, ← angles_eq _ (hp t)]
  rfl

/-- The sines the reference takes are those of the positions' angles. -/
theorem taken_sin (p : Pos) (hp : ∀ t : Fin 8192, (p (ix1 t)).toNat < 4096) (t : Fin 8192) (i : Fin 64) :
    taken (Host.sin (F := Ideal) (φ := .f32) angles) p (ix2 t i) = Ideal.sin (angle (p (ix1 t)) i.val) := by
  rw [taken_eq _ p hp, ← angles_eq _ (hp t)]
  rfl

end Cert.Rope
-- ==== Proof.ReferenceHeads.lean ====
module
public import proofs.«01_k».proof.Proof.ReferenceTake

/-! The reference's first three results: the queries and the keys, turned by their positions' angles, and the values. -/

@[expose] public section
set_option maxRecDepth 16384
noncomputable section
open Idealize.ShloMosaic Idealize.ShloMosaic.TcCoe Idealize.SL.Sem

namespace Cert.Rope
open Cert.ReferenceIdeal Cert.ReferenceIdeal.Gen Cert.ReferenceIdeal.Value

/-- The reference's 32 query heads before they are turned. -/
def queryHeads (x : Proj) : S8192x32x128.Idx → EReal :=
  shapeCast _ (extractStridedSlice S8192x4096 ![0, 0] x slices_S8192x6144_S8192x4096_0_0) shapeCasts_S8192x4096_S8192x32x128

/-- The reference's 8 key heads before they are turned. -/
def keyHeads (x : Proj) : S8192x8x128.Idx → EReal :=
  shapeCast _ (extractStridedSlice S8192x1024 ![0, 4096] x slices_S8192x6144_S8192x1024_0_4096) shapeCasts_S8192x1024_S8192x8x128

/-- One row of factors per token, the same for each of the 32 query heads. -/
def overQuery (T : S8192x64.Idx → EReal) : S8192x32x64.Idx → EReal :=
  broadcastInDim S8192x32x64 ![0, 1, 2] bcast_S8192x1x64_S8192x32x64_0_1_2 (broadcastInDim S8192x1x64 ![0, 2] bcast_S8192x64_S8192x1x64_0_2 T)

/-- One row of factors per token, the same for each of the 8 key heads. -/
def overKey (T : S8192x64.Idx → EReal) : S8192x8x64.Idx → EReal :=
  broadcastInDim S8192x8x64 ![0, 1, 2] bcast_S8192x1x64_S8192x8x64_0_1_2 (broadcastInDim S8192x1x64 ![0, 2] bcast_S8192x64_S8192x1x64_0_2 T)

/-- The reference's queries, of given heads and given rows of cosines and sines. -/
def queryOf (X : S8192x32x128.Idx → EReal) (C S : S8192x64.Idx → EReal) : S8192x32x128.Idx → EReal :=
  concatenate S8192x32x128 2 [⟨S8192x32x64, subf (F := Ideal) (φ := .f32) (mulf (F := Ideal) (φ := .f32) (extractStridedSlice S8192x32x64 ![0, 0, 0] X slices_S8192x32x128_S8192x32x64_0_0_0) (overQuery C)) (mulf (F := Ideal) (φ := .f32) (extractStridedSlice S8192x32x64 ![0, 0, 64] X slices_S8192x32x128_S8192x32x64_0_0_64) (overQuery S))⟩,
    ⟨S8192x32x64, addf (F := Ideal) (φ := .f32) (mulf (F := Ideal) (φ := .f32) (extractStridedSlice S8192x32x64 ![0, 0, 64] X slices_S8192x32x128_S8192x32x64_0_0_64) (overQuery C)) (mulf (F := Ideal) (φ := .f32) (extractStridedSlice S8192x32x64 ![0, 0, 0] X slices_S8192x32x128_S8192x32x64_0_0_0) (overQuery S))⟩] concatenates_S8192x32x64_S8192x32x64_S8192x32x128_d2

/-- The reference's keys, of given heads and given rows of cosines and sines. -/
def keyOf (X : S8192x8x128.Idx → EReal) (C S : S8192x64.Idx → EReal) : S8192x8x128.Idx → EReal :=
  concatenate S8192x8x128 2 [⟨S8192x8x64, subf (F := Ideal) (φ := .f32) (mulf (F := Ideal) (φ := .f32) (extractStridedSlice S8192x8x64 ![0, 0, 0] X slices_S8192x8x128_S8192x8x64_0_0_0) (overKey C)) (mulf (F := Ideal) (φ := .f32) (extractStridedSlice S8192x8x64 ![0, 0, 64] X slices_S8192x8x128_S8192x8x64_0_0_64) (overKey S))⟩,
    ⟨S8192x8x64, addf (F := Ideal) (φ := .f32) (mulf (F := Ideal) (φ := .f32) (extractStridedSlice S8192x8x64 ![0, 0, 64] X slices_S8192x8x128_S8192x8x64_0_0_64) (overKey C)) (mulf (F := Ideal) (φ := .f32) (extractStridedSlice S8192x8x64 ![0, 0, 0] X slices_S8192x8x128_S8192x8x64_0_0_0) (overKey S))⟩] concatenates_S8192x8x64_S8192x8x64_S8192x8x128_d2

/-- What the reference computes as its queries, when every position lies in the table. -/
theorem queryOf_eq (x : Proj) (p : Pos) (hp : ∀ t : Fin 8192, (p (ix1 t)).toNat < 4096) :
    queryOf (queryHeads x) (taken (Host.cos (F := Ideal) (φ := .f32) angles) p) (taken (Host.sin (F := Ideal) (φ := .f32) angles) p) = query x p := by
  have hc := taken_cos p hp
  have hs := taken_sin p hp
  generalize taken (Host.cos (F := Ideal) (φ := .f32) angles) p = C at hc ⊢
  generalize taken (Host.sin (F := Ideal) (φ := .f32) angles) p = S at hs ⊢
  funext j
  idx_vars j
  pointwise [queryOf, queryHeads, overQuery, query, turned]
  simp only [hc, hs]
  by_cases h : j2.val < 64
  · simp only [dif_pos h, Nat.add_comm 64 j2.val]
  · have e : 64 + (j2.val - 64) = j2.val := by omega
    simp only [dif_neg h, e]

/-- What the reference computes as its keys, when every position lies in the table. -/
theorem keyOf_eq (x : Proj) (p : Pos) (hp : ∀ t : Fin 8192, (p (ix1 t)).toNat < 4096) :
    keyOf (keyHeads x) (taken (Host.cos (F := Ideal) (φ := .f32) angles) p) (taken (Host.sin (F := Ideal) (φ := .f32) angles) p) = key x p := by
  have hc := taken_cos p hp
  have hs := taken_sin p hp
  generalize taken (Host.cos (F := Ideal) (φ := .f32) angles) p = C at hc ⊢
  generalize taken (Host.sin (F := Ideal) (φ := .f32) angles) p = S at hs ⊢
  funext j
  idx_vars j
  pointwise [keyOf, keyHeads, overKey, key, turned]
  simp only [hc, hs]
  by_cases h : j2.val < 64
  · simp only [dif_pos h, Nat.add_comm 64 j2.val, Nat.add_assoc]
  · have e : 64 + (j2.val - 64) = j2.val := by omega
    simp only [dif_neg h, e, Nat.add_assoc]

/-- The reference's queries. -/
theorem res_query (m : (ℓ : Loc nD τ sig) → Buf (Elt Ideal) ℓ) (c : Dev nD)
    (hp : ∀ t : Fin 8192, ((m ((c.tc : Thread nD τ).loc main_arg1) : Pos) (ix1 t)).toNat < 4096) :
    res_main_v41 (F := Ideal) m c = query (m ((c.tc : Thread nD τ).loc main_arg0)) (m ((c.tc : Thread nD τ).loc main_arg1)) :=
  Eq.trans (by rfl) (queryOf_eq _ _ hp)

/-- The reference's keys. -/
theorem res_key (m : (ℓ : Loc nD τ sig) → Buf (Elt Ideal) ℓ) (c : Dev nD)
    (hp : ∀ t : Fin 8192, ((m ((c.tc : Thread nD τ).loc main_arg1) : Pos) (ix1 t)).toNat < 4096) :
    res_main_v56 (F := Ideal) m c = key (m ((c.tc : Thread nD τ).loc main_arg0)) (m ((c.tc : Thread nD τ).loc main_arg1)) :=
  Eq.trans (by rfl) (keyOf_eq _ _ hp)

/-- The reference's values. -/
theorem res_value (x : Proj) :
    shapeCast S8192x8x128 (extractStridedSlice S8192x1024 ![0, 5120] x slices_S8192x6144_S8192x1024_0_5120) shapeCasts_S8192x1024_S8192x8x128 = value x := by
  funext j
  idx_vars j
  pointwise [value]
  simp only [Nat.add_assoc]

end Cert.Rope
-- ==== Proof.ReferenceCache.lean ====
module
public import proofs.«01_k».proof.Proof.ReferenceHeads
public import Idealize.ShloMosaic.Lib.Routing.OpsSet

/-! The reference's new cache: two scatters, the keys written into half 0 and the values into half 1, token `t` at slot `t`. -/

@[expose] public section
set_option maxRecDepth 16384
noncomputable section
open Idealize.ShloMosaic Idealize.ShloMosaic.TcCoe Idealize.SL.Sem

namespace Cert.Rope
open Cert.ReferenceIdeal Cert.ReferenceIdeal.Gen Cert.ReferenceIdeal.Value

/-- A slot for each token. -/
abbrev Slots := (⟨1, ![8192]⟩ : Shape).Idx → BitVec 32

/-- The places the reference writes to: for each token the half `a` and the token's slot, a negative slot counted from the
    cache's end. -/
def places (a : BitVec 32) (s : Slots) : S8192x2.Idx → BitVec 32 :=
  concatenate S8192x2 1 [⟨S8192x1, broadcastInDim S8192x1 ![0] bcast_S8192_S8192x1_0 (id (broadcastInDim S8192 ![] bcast_S_S8192 (constantI S_ 32 a)))⟩, ⟨S8192x1, broadcastInDim S8192x1 ![0] bcast_S8192_S8192x1_0 (select (cmpi .slt s (broadcastInDim S8192 ![] bcast_S_S8192 (constantI S_ 32 0#32))) (addi s (broadcastInDim S8192 ![] bcast_S_S8192 (constantI S_ 32 16384#32))) s)⟩] concatenates_S8192x1_S8192x1_S8192x2_d1

/-- The half that a place names. -/
theorem places_half (a : BitVec 32) (s : Slots) (t : Fin 8192) : places a s (ix2 t 0) = a := by
  pointwise [places]
  rfl

/-- The slot that a place names, when token `t`'s slot is `t`. -/
theorem places_slot (a : BitVec 32) (s : Slots) (hs : ∀ t : Fin 8192, s (ix1 t) = BitVec.ofNat 32 t.val) (t : Fin 8192) :
    places a s (ix2 t 1) = BitVec.ofNat 32 t.val := by
  pointwise [places]
  rw [hs]
  word_cmp
  exact if_neg (Nat.not_lt_zero _)

/-- One token's row written: update `(t, h, d)` goes to the entry at half `a`, slot `t`, head `h`, lane `d`. -/
theorem lands (I : S8192x2.Idx → BitVec 32) (a : Fin 2) (hI0 : ∀ t : Fin 8192, I (ix2 t 0) = BitVec.ofNat 32 a.val)
    (hI1 : ∀ t : Fin 8192, I (ix2 t 1) = BitVec.ofNat 32 t.val) (t : Fin 8192) (h : Fin 8) (d : Fin 128)
    (b : Fin 2) (s : Fin 16384) (h' : Fin 8) (d' : Fin 128) :
    scatter_S2x16384x8x128_S8192x2_S8192x8x128_12_01_01_1.resultIdx? (ix3 t h d) I = some (ix4 b s h' d')
      ↔ b = a ∧ s.val = t.val ∧ h' = h ∧ d' = d := by
  have w0 : scatter_S2x16384x8x128_S8192x2_S8192x8x128_12_01_01_1.window (ix3 t h d) 0 = 0 := rfl
  have w1 : scatter_S2x16384x8x128_S8192x2_S8192x8x128_12_01_01_1.window (ix3 t h d) 1 = 0 := rfl
  have w2 : scatter_S2x16384x8x128_S8192x2_S8192x8x128_12_01_01_1.window (ix3 t h d) 2 = h.val := rfl
  have w3 : scatter_S2x16384x8x128_S8192x2_S8192x8x128_12_01_01_1.window (ix3 t h d) 3 = d.val := rfl
  have s2 : scatter_S2x16384x8x128_S8192x2_S8192x8x128_12_01_01_1.start (ix3 t h d) I 2 = 0 := rfl
  have s3 : scatter_S2x16384x8x128_S8192x2_S8192x8x128_12_01_01_1.start (ix3 t h d) I 3 = 0 := rfl
  have s0 : scatter_S2x16384x8x128_S8192x2_S8192x8x128_12_01_01_1.start (ix3 t h d) I 0 = (a.val : Int) := by
    refine Eq.trans (b := (I (ix2 t 0)).toInt) ?_ (by rw [hI0, StableHlo.Predicate.toInt_ofNat_small _ (by omega)])
    refine congrArg (fun i => (I i).toInt) ?_
    funext k
    match k with
    | ⟨0, _⟩ => rfl
    | ⟨1, _⟩ => rfl
  have s1 : scatter_S2x16384x8x128_S8192x2_S8192x8x128_12_01_01_1.start (ix3 t h d) I 1 = (t.val : Int) := by
    refine Eq.trans (b := (I (ix2 t 1)).toInt) ?_ (by rw [hI1, StableHlo.Predicate.toInt_ofNat_small _ (by omega)])
    refine congrArg (fun i => (I i).toInt) ?_
    funext k
    match k with
    | ⟨0, _⟩ => rfl
    | ⟨1, _⟩ => rfl
  rw [Routing.resultIdx?_eq_some]
  constructor
  · intro q
    have q0 : (a.val : Int) + ((0 : Nat) : Int) = (b.val : Int) := by rw [← s0, ← w0]; exact q 0
    have q1 : (t.val : Int) + ((0 : Nat) : Int) = (s.val : Int) := by rw [← s1, ← w1]; exact q 1
    have q2 : (0 : Int) + (h.val : Int) = (h'.val : Int) := by rw [← s2, ← w2]; exact q 2
    have q3 : (0 : Int) + (d.val : Int) = (d'.val : Int) := by rw [← s3, ← w3]; exact q 3
    refine ⟨Fin.ext ?_, ?_, Fin.ext ?_, Fin.ext ?_⟩ <;> omega
  · rintro ⟨rfl, q, rfl, rfl⟩ k
    match k with
    | ⟨0, _⟩ => exact (congrArg₂ (fun (u : Int) (v : Nat) => u + (v : Int)) s0 w0).trans (by simp)
    | ⟨1, _⟩ => exact (congrArg₂ (fun (u : Int) (v : Nat) => u + (v : Int)) s1 w1).trans (by simp; exact congrArg Nat.cast q.symm)
    | ⟨2, _⟩ => exact (congrArg₂ (fun (u : Int) (v : Nat) => u + (v : Int)) s2 w2).trans (by simp)
    | ⟨3, _⟩ => exact (congrArg₂ (fun (u : Int) (v : Nat) => u + (v : Int)) s3 w3).trans (by simp)

/-- Every token's row written into half `a`, token `t` at slot `t`: there the new row, elsewhere what was there. -/
theorem written (x : S2x16384x8x128.Idx → EReal) (I : S8192x2.Idx → BitVec 32) (u : S8192x8x128.Idx → EReal) (a : Fin 2)
    (hI0 : ∀ t : Fin 8192, I (ix2 t 0) = BitVec.ofNat 32 a.val) (hI1 : ∀ t : Fin 8192, I (ix2 t 1) = BitVec.ofNat 32 t.val)
    (b : Fin 2) (s : Fin 16384) (h : Fin 8) (d : Fin 128) :
    Host.scatter scatter_S2x16384x8x128_S8192x2_S8192x8x128_12_01_01_1 (fun _ b => b) x I u (ix4 b s h d)
      = if q : b = a ∧ s.val < 8192 then u (ix3 ⟨s.val, q.2⟩ h d) else x (ix4 b s h d) := by
  by_cases q : b = a ∧ s.val < 8192
  · rw [dif_pos q]
    refine Routing.scatter_set_hit _ x I u _ _ (fun k hk => ?_) (ix3 ⟨s.val, q.2⟩ h d) ((lands I a hI0 hI1 _ _ _ _ _ _ _).2 ⟨q.1, rfl, rfl, rfl⟩)
    idx_vars k
    obtain ⟨-, e, rfl, rfl⟩ := (lands I a hI0 hI1 _ _ _ _ _ _ _).1 hk
    exact congrArg (fun t => u (ix3 t _ _)) (Fin.ext e.symm)
  · rw [dif_neg q]
    refine Routing.scatter_set_miss _ x I u _ fun k hk => q ?_
    idx_vars k
    obtain ⟨e, e', -, -⟩ := (lands I a hI0 hI1 _ _ _ _ _ _ _).1 hk
    exact ⟨e, by omega⟩

/-- The two scatters into an old cache that is zero from slot 8192 on. -/
theorem two_written (o : S2x16384x8x128.Idx → EReal) (x : Proj) (p : Pos) (s : Slots)
    (hs : ∀ t : Fin 8192, s (ix1 t) = BitVec.ofNat 32 t.val)
    (ho : ∀ (b : Fin 2) (r : Fin 16384) (h : Fin 8) (d : Fin 128), 8192 ≤ r.val → o (ix4 b r h d) = 0) :
    Host.scatter scatter_S2x16384x8x128_S8192x2_S8192x8x128_12_01_01_1 (fun _ b => b)
      (Host.scatter scatter_S2x16384x8x128_S8192x2_S8192x8x128_12_01_01_1 (fun _ b => b) o (places 0#32 s) (key x p)) (places 1#32 s) (value x)
      = cache x p := by
  funext j
  idx_vars j
  rw [written _ (places 1#32 s) _ 1 (places_half _ _) (places_slot _ s hs), written _ (places 0#32 s) _ 0 (places_half _ _) (places_slot _ s hs)]
  show _ = if h : j1.val < 8192 then if j0.val = 0 then key x p (ix3 ⟨j1.val, h⟩ j2 j3) else value x (ix3 ⟨j1.val, h⟩ j2 j3) else 0
  by_cases q : j1.val < 8192
  · obtain rfl | rfl : j0 = 0 ∨ j0 = 1 := by omega
    · rw [dif_neg (by simp), dif_pos ⟨rfl, q⟩, dif_pos q]
      rfl
    · rw [dif_pos ⟨rfl, q⟩, dif_pos q, if_neg (by simp)]
  · rw [dif_neg fun e => q e.2, dif_neg fun e => q e.2, dif_neg q, ho _ _ _ _ (by omega)]

/-- The reference's new cache. -/
theorem res_cache (m : (ℓ : Loc nD τ sig) → Buf (Elt Ideal) ℓ) (c : Dev nD)
    (hp : ∀ t : Fin 8192, ((m ((c.tc : Thread nD τ).loc main_arg1) : Pos) (ix1 t)).toNat < 4096)
    (hs : ∀ t : Fin 8192, (m ((c.tc : Thread nD τ).loc main_arg3) : Slots) (ix1 t) = BitVec.ofNat 32 t.val)
    (ho : ∀ (b : Fin 2) (r : Fin 16384) (h : Fin 8) (d : Fin 128), 8192 ≤ r.val →
      (m ((c.tc : Thread nD τ).loc main_arg2) : S2x16384x8x128.Idx → EReal) (ix4 b r h d) = (0 : EReal)) :
    res_main_v78 (F := Ideal) m c = cache (m ((c.tc : Thread nD τ).loc main_arg0)) (m ((c.tc : Thread nD τ).loc main_arg1)) := by
  rw [← two_written (m ((c.tc : Thread nD τ).loc main_arg2)) (m ((c.tc : Thread nD τ).loc main_arg0)) (m ((c.tc : Thread nD τ).loc main_arg1)) (m ((c.tc : Thread nD τ).loc main_arg3)) hs ho, ← res_key m c hp, ← res_value]
  rfl

end Cert.Rope
-- ==== Proof.ReferenceValue.lean ====
module
public import proofs.«01_k».proof.Proof.ReferenceCache

/-! The reference's run: its four results as functions of the projections and the positions. -/

@[expose] public section
noncomputable section
open Idealize.ShloMosaic Idealize.ShloMosaic.TcCoe Idealize.SL.Sem

namespace Cert.Rope
open Cert.ReferenceIdeal

/-- On every device, from any memory with zero counters in which the positions lie in `[0, 4096)`, token `t`'s slot is `t` and
    the old cache is zero from slot 8192 on: the reference's run ends with the query, key and value heads in the first three
    results, the new cache in the fourth, and the arguments as they were. -/
theorem reference_run (m : (ℓ : Loc nD τ sig) → Buf (Elt Ideal) ℓ) (ρ : Dev nD → PrngReg) (x : Dev nD → Proj) (p : Dev nD → Pos)
    (o : Dev nD → S2x16384x8x128.Idx → EReal) (s : Dev nD → Slots)
    (h0 : ∀ c : Dev nD, m ((c.tc : Thread nD τ).loc main_arg0) = x c) (h1 : ∀ c : Dev nD, m ((c.tc : Thread nD τ).loc main_arg1) = p c)
    (h2 : ∀ c : Dev nD, m ((c.tc : Thread nD τ).loc main_arg2) = o c) (h3 : ∀ c : Dev nD, m ((c.tc : Thread nD τ).loc main_arg3) = s c)
    (hp : ∀ (c : Dev nD) (t : Fin 8192), (p c (ix1 t)).toNat < 4096) (hs : ∀ (c : Dev nD) (t : Fin 8192), s c (ix1 t) = BitVec.ofNat 32 t.val)
    (ho : ∀ (c : Dev nD) (b : Fin 2) (r : Fin 16384) (h : Fin 8) (d : Fin 128), 8192 ≤ r.val → o c (ix4 b r h d) = 0) :
    θ_run defs (onTc (τ := τ) (main (F := Ideal))) ⟨m, fun _ => 0, ρ⟩ fun r => ∀ c : Dev nD,
      r.2.mem ((c.tc : Thread nD τ).loc main_v41) = query (x c) (p c)
        ∧ r.2.mem ((c.tc : Thread nD τ).loc main_v56) = key (x c) (p c)
        ∧ r.2.mem ((c.tc : Thread nD τ).loc main_v5) = value (x c)
        ∧ r.2.mem ((c.tc : Thread nD τ).loc main_v78) = cache (x c) (p c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run _ _ _).mono (fun r h c => ?_) (Value.run (F := Ideal) m ρ)
  obtain ⟨q, k, v, w, rest⟩ := h c
  have hp' : ∀ t : Fin 8192, ((m ((c.tc : Thread nD τ).loc main_arg1) : Pos) (ix1 t)).toNat < 4096 := by rw [h1]; exact hp c
  have hs' : ∀ t : Fin 8192, (m ((c.tc : Thread nD τ).loc main_arg3) : Slots) (ix1 t) = BitVec.ofNat 32 t.val := by rw [h3]; exact hs c
  have ho' : ∀ (b : Fin 2) (r : Fin 16384) (h : Fin 8) (d : Fin 128), 8192 ≤ r.val →
      (m ((c.tc : Thread nD τ).loc main_arg2) : S2x16384x8x128.Idx → EReal) (ix4 b r h d) = (0 : EReal) := by rw [h2]; exact ho c
  rw [← h0, ← h1]
  exact ⟨q.trans (res_query m c hp'), k.trans (res_key m c hp'), v.trans (res_value _), w.trans (res_cache m c hp' hs' ho'), rest⟩

end Cert.Rope
-- ==== Proof.lean ====
/-
  THE CLAIMS, PROVED: the frames of the kernel and of the reference, and that the two end with the same four results. The kernel's
  run is Proof/KernelValue.lean, the reference's Proof/ReferenceValue.lean, both stated by the functions of Proof/Rope.lean; what the
  precondition gives is Proof/Given.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_as_drawn
public import proofs.«01_k».proof.Proof.Gen.ReferenceIdeal.Run
public import proofs.«01_k».proof.Proof.Given
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems (by decide) r.2⟩) (Cert.ReferenceIdeal.Value.run (F := Ideal) m g)

/-- From memories that agree on the arguments, and under the precondition, the kernel and the reference end with the same four
    results: the query, key and value heads and the new cache. -/
theorem same_results : algebraic_KernelIdeal_ReferenceIdeal_pre_inputs_as_drawn (hKernelIdeal := Cert.KernelIdeal.Gen.facts)
    (hReferenceIdeal := Cert.ReferenceIdeal.Gen.facts) (hPre_inputs_as_drawn := Cert.Pre_inputs_as_drawn.Gen.facts) := by
  intro m g m' g' hpre hagree
  have hg := fun c => Cert.Rope.given _ _ _ _ (hpre c)
  exact ⟨_, _, _, _, Cert.Rope.kernel_run m g,
    Cert.Rope.reference_run m' g' _ _ _ _ (fun c => (hagree c).1) (fun c => (hagree c).2.1) (fun c => (hagree c).2.2.1)
      (fun c => (hagree c).2.2.2) (fun c => (hg c).1) (fun c => (hg c).2.1) (fun c => (hg c).2.2)⟩

theorem claim : Cert.Claim := ⟨Cert.Kernel.Gen.facts, Cert.KernelIdeal.Gen.facts, Cert.ReferenceIdeal.Gen.facts, Cert.Pre_inputs_as_drawn.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_results⟩

end Cert.Proof

end
